-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ascending [hPre_ascending : Cert.Pre_ascending.Facts] (m : (ℓ : Loc Cert.KernelIdeal.nD Cert.KernelIdeal.τ Cert.KernelIdeal.sig) → Buf (Elt Ideal) ℓ) : Prop :=
  ∀ c : Dev Cert.KernelIdeal.nD,
    (Cert.Pre_ascending.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_CountedIdeal (m : (ℓ : Loc Cert.CountedIdeal.nD Cert.CountedIdeal.τ Cert.CountedIdeal.sig) → Buf (Elt Ideal) ℓ) : Prop :=
  True

def Pre_CountedIdeal_ascending [hPre_ascending : Cert.Pre_ascending.Facts] (m : (ℓ : Loc Cert.CountedIdeal.nD Cert.CountedIdeal.τ Cert.CountedIdeal.sig) → Buf (Elt Ideal) ℓ) : Prop :=
  ∀ c : Dev Cert.CountedIdeal.nD,
    (Cert.Pre_ascending.fn (F := Ideal) (m ((c.tc : Thread Cert.CountedIdeal.nD Cert.CountedIdeal.τ).loc Cert.CountedIdeal.main_arg0)) (m ((c.tc : Thread Cert.CountedIdeal.nD Cert.CountedIdeal.τ).loc Cert.CountedIdeal.main_arg1)) (m ((c.tc : Thread Cert.CountedIdeal.nD Cert.CountedIdeal.τ).loc Cert.CountedIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_ascending [hKernelIdeal : Cert.KernelIdeal.Facts] [hPre_ascending : Cert.Pre_ascending.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ascending m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_CountedIdeal [hCountedIdeal : Cert.CountedIdeal.Facts] : Prop :=
  ∀ (m : (ℓ : Loc Cert.CountedIdeal.nD Cert.CountedIdeal.τ Cert.CountedIdeal.sig) → Buf (Elt Ideal) ℓ) (g : Dev Cert.CountedIdeal.nD → PrngReg), Pre_CountedIdeal m →
    θ_run (Cert.CountedIdeal.defs (F := Ideal)) (onTc (τ := Cert.CountedIdeal.τ) (Cert.CountedIdeal.main (F := Ideal))) ⟨m, fun _ => 0, g⟩ (fun r => (∀ c : Dev Cert.CountedIdeal.nD,
      r.2.mem ((c.tc : Thread Cert.CountedIdeal.nD Cert.CountedIdeal.τ).loc Cert.CountedIdeal.main_arg0) = m ((c.tc : Thread Cert.CountedIdeal.nD Cert.CountedIdeal.τ).loc Cert.CountedIdeal.main_arg0)
      ∧ r.2.mem ((c.tc : Thread Cert.CountedIdeal.nD Cert.CountedIdeal.τ).loc Cert.CountedIdeal.main_arg1) = m ((c.tc : Thread Cert.CountedIdeal.nD Cert.CountedIdeal.τ).loc Cert.CountedIdeal.main_arg1)
      ∧ r.2.mem ((c.tc : Thread Cert.CountedIdeal.nD Cert.CountedIdeal.τ).loc Cert.CountedIdeal.main_arg2) = m ((c.tc : Thread Cert.CountedIdeal.nD Cert.CountedIdeal.τ).loc Cert.CountedIdeal.main_arg2))
      ∧ r.2.sem = fun _ => 0)

def quiescent_CountedIdeal_pre_ascending [hCountedIdeal : Cert.CountedIdeal.Facts] [hPre_ascending : Cert.Pre_ascending.Facts] : Prop :=
  ∀ (m : (ℓ : Loc Cert.CountedIdeal.nD Cert.CountedIdeal.τ Cert.CountedIdeal.sig) → Buf (Elt Ideal) ℓ) (g : Dev Cert.CountedIdeal.nD → PrngReg), Pre_CountedIdeal_ascending m →
    θ_run (Cert.CountedIdeal.defs (F := Ideal)) (onTc (τ := Cert.CountedIdeal.τ) (Cert.CountedIdeal.main (F := Ideal))) ⟨m, fun _ => 0, g⟩ (fun r => (∀ c : Dev Cert.CountedIdeal.nD,
      r.2.mem ((c.tc : Thread Cert.CountedIdeal.nD Cert.CountedIdeal.τ).loc Cert.CountedIdeal.main_arg0) = m ((c.tc : Thread Cert.CountedIdeal.nD Cert.CountedIdeal.τ).loc Cert.CountedIdeal.main_arg0)
      ∧ r.2.mem ((c.tc : Thread Cert.CountedIdeal.nD Cert.CountedIdeal.τ).loc Cert.CountedIdeal.main_arg1) = m ((c.tc : Thread Cert.CountedIdeal.nD Cert.CountedIdeal.τ).loc Cert.CountedIdeal.main_arg1)
      ∧ r.2.mem ((c.tc : Thread Cert.CountedIdeal.nD Cert.CountedIdeal.τ).loc Cert.CountedIdeal.main_arg2) = m ((c.tc : Thread Cert.CountedIdeal.nD Cert.CountedIdeal.τ).loc Cert.CountedIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v24) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def algebraic_KernelIdeal_CountedIdeal_pre_ascending [hKernelIdeal : Cert.KernelIdeal.Facts] [hCountedIdeal : Cert.CountedIdeal.Facts] [hPre_ascending : Cert.Pre_ascending.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.CountedIdeal.nD Cert.CountedIdeal.τ Cert.CountedIdeal.sig) → Buf (Elt Ideal) ℓ) (g' : Dev Cert.CountedIdeal.nD → PrngReg), Pre_KernelIdeal_ascending m →
    (∀ c : Dev Cert.KernelIdeal.nD,
      m' ((c.tc : Thread Cert.CountedIdeal.nD Cert.CountedIdeal.τ).loc Cert.CountedIdeal.main_arg0) = m ((c.tc : Thread Cert.KernelIdeal.nD Cert.KernelIdeal.τ).loc Cert.KernelIdeal.main_arg0)
      ∧ m' ((c.tc : Thread Cert.CountedIdeal.nD Cert.CountedIdeal.τ).loc Cert.CountedIdeal.main_arg1) = m ((c.tc : Thread Cert.KernelIdeal.nD Cert.KernelIdeal.τ).loc Cert.KernelIdeal.main_arg1)
      ∧ m' ((c.tc : Thread Cert.CountedIdeal.nD Cert.CountedIdeal.τ).loc Cert.CountedIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.CountedIdeal.defs (F := Ideal)) (onTc (τ := Cert.CountedIdeal.τ) (Cert.CountedIdeal.main (F := Ideal))) ⟨m', fun _ => 0, g'⟩ (fun r => ∀ c : Dev Cert.CountedIdeal.nD,
          r.2.mem ((c.tc : Thread Cert.CountedIdeal.nD Cert.CountedIdeal.τ).loc Cert.CountedIdeal.main_v22) = v0 c
          ∧ r.2.mem ((c.tc : Thread Cert.CountedIdeal.nD Cert.CountedIdeal.τ).loc Cert.CountedIdeal.main_arg0) = m' ((c.tc : Thread Cert.CountedIdeal.nD Cert.CountedIdeal.τ).loc Cert.CountedIdeal.main_arg0)
          ∧ r.2.mem ((c.tc : Thread Cert.CountedIdeal.nD Cert.CountedIdeal.τ).loc Cert.CountedIdeal.main_arg1) = m' ((c.tc : Thread Cert.CountedIdeal.nD Cert.CountedIdeal.τ).loc Cert.CountedIdeal.main_arg1)
          ∧ r.2.mem ((c.tc : Thread Cert.CountedIdeal.nD Cert.CountedIdeal.τ).loc Cert.CountedIdeal.main_arg2) = m' ((c.tc : Thread Cert.CountedIdeal.nD Cert.CountedIdeal.τ).loc Cert.CountedIdeal.main_arg2))

def Claim : Prop :=
  ∃ (hKernel : Cert.Kernel.Facts) (hKernelIdeal : Cert.KernelIdeal.Facts) (hReferenceIdeal : Cert.ReferenceIdeal.Facts) (hReference : Cert.Reference.Facts) (hCountedIdeal : Cert.CountedIdeal.Facts) (hPre_ascending : Cert.Pre_ascending.Facts),
    quiescent_Kernel (hKernel := hKernel)
    ∧ quiescent_KernelIdeal (hKernelIdeal := hKernelIdeal)
    ∧ quiescent_KernelIdeal_pre_ascending (hKernelIdeal := hKernelIdeal) (hPre_ascending := hPre_ascending)
    ∧ quiescent_ReferenceIdeal (hReferenceIdeal := hReferenceIdeal)
    ∧ quiescent_Reference (hReference := hReference)
    ∧ quiescent_CountedIdeal (hCountedIdeal := hCountedIdeal)
    ∧ quiescent_CountedIdeal_pre_ascending (hCountedIdeal := hCountedIdeal) (hPre_ascending := hPre_ascending)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ algebraic_KernelIdeal_CountedIdeal_pre_ascending (hKernelIdeal := hKernelIdeal) (hCountedIdeal := hCountedIdeal) (hPre_ascending := hPre_ascending)
-- ==== Pre_ascending.lean ====
abbrev S1 : Shape := ⟨1, ![1]⟩
abbrev S21 : Shape := ⟨1, ![21]⟩
abbrev S20 : Shape := ⟨1, ![20]⟩
abbrev S_ : Shape := ⟨0, ![]⟩

class Facts : Prop where
  slices_S21_S20_0 : S21.Slices ![0] S20
  slices_S21_S20_1 : S21.Slices ![1] S20
  reducesTo_S20_S_d0 : S20.ReducesTo [0] S_
  h_S_ : 0 < S_.numel

variable [Facts]

def fn {F : FTy → Type} [FloatOps F] (main_arg0 : FVec F S1 .f32) (main_arg1 : FVec F S21 .f32) (main_arg2 : FVec F S21 .f32) : IVec S_ 1 :=
  let main_v0 : FVec F S20 .f32 := (extractStridedSlice S20 ![0] · slices_S21_S20_0) main_arg1
  let main_v1 : FVec F S20 .f32 := (extractStridedSlice S20 ![1] · slices_S21_S20_1) main_arg1
  let main_v2 : IVec S20 1 := cmpf .ole main_v0 main_v1
  let main_c : IVec S_ 1 := constantI S_ 1 1#1
  let main_v3 : IVec S_ 1 := (fun x v => Host.reduce IntOp.andi x v reducesTo_S20_S_d0 h_S_) main_v2 main_c
  main_v3
-- ==== Kernel.lean ====
abbrev S1 : Shape := ⟨1, ![1]⟩
abbrev S21 : Shape := ⟨1, ![21]⟩
abbrev S_ : Shape := ⟨0, ![]⟩
abbrev S5 : Shape := ⟨1, ![5]⟩
abbrev S48 : Shape := ⟨1, ![48]⟩

abbrev nBuf : Table → Nat
  | .hbm => 7
  | .local .scScalar .smem => 2
  | _ => 0

abbrev bufTy : (tb : Table) → Fin (nBuf tb) → BufTy
  | .hbm, ⟨0, _⟩ => ⟨S1, .f32⟩
  | .hbm, ⟨1, _⟩ => ⟨S21, .f32⟩
  | .hbm, ⟨2, _⟩ => ⟨S21, .f32⟩
  | .hbm, ⟨3, _⟩ => ⟨S_, .f32⟩
  | .hbm, ⟨4, _⟩ => ⟨S5, .f32⟩
  | .hbm, ⟨5, _⟩ => ⟨S48, .f32⟩
  | .hbm, ⟨6, _⟩ => ⟨S1, .f32⟩
  | .local .scScalar .smem, ⟨0, _⟩ => ⟨S48, .f32⟩
  | .local .scScalar .smem, ⟨1, _⟩ => ⟨S1, .f32⟩
  | _, _ => ⟨S1, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v1_scs : Ref sig .scScalar := ⟨.hbm, 5, rfl⟩
abbrev main_v2_scs : Ref sig .scScalar := ⟨.hbm, 6, rfl⟩
abbrev cc0_scratch0 : Ref sig .scScalar := ⟨.smem, 0, rfl⟩
abbrev cc0_scratch1 : Ref sig .scScalar := ⟨.smem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S1 : Shape := ⟨1, ![1]⟩
abbrev S21 : Shape := ⟨1, ![21]⟩
abbrev S1x1 : Shape := ⟨2, ![1, 1]⟩
abbrev S1x21 : Shape := ⟨2, ![1, 21]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1, .f32⟩
  | .hbm, ⟨1, _⟩ => ⟨S21, .f32⟩
  | .hbm, ⟨2, _⟩ => ⟨S21, .f32⟩
  | .hbm, ⟨3, _⟩ => ⟨S1x1, .f32⟩
  | .hbm, ⟨4, _⟩ => ⟨S1x21, .f32⟩
  | .hbm, ⟨5, _⟩ => ⟨S1x21, .f32⟩
  | .hbm, ⟨6, _⟩ => ⟨S1x21, .i1⟩
  | .hbm, ⟨7, _⟩ => ⟨S21, .i32⟩
  | .hbm, ⟨8, _⟩ => ⟨S1x21, .i32⟩
  | .hbm, ⟨9, _⟩ => ⟨S_, .i32⟩
  | .hbm, ⟨10, _⟩ => ⟨S_, .i32⟩
  | .hbm, ⟨11, _⟩ => ⟨S1x21, .i32⟩
  | .hbm, ⟨12, _⟩ => ⟨S1x21, .i32⟩
  | .hbm, ⟨13, _⟩ => ⟨S_, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S1, .i1⟩
  | .hbm, ⟨21, _⟩ => ⟨S_, .i32⟩
  | .hbm, ⟨22, _⟩ => ⟨S1, .i32⟩
  | .hbm, ⟨23, _⟩ => ⟨S1, .i32⟩
  | .hbm, ⟨24, _⟩ => ⟨S1, .i32⟩
  | .hbm, ⟨25, _⟩ => ⟨S1x1, .i32⟩
  | .hbm, ⟨26, _⟩ => ⟨S1, .f32⟩
  | .hbm, ⟨27, _⟩ => ⟨S_, .i32⟩
  | .hbm, ⟨28, _⟩ => ⟨S1, .i32⟩
  | .hbm, ⟨29, _⟩ => ⟨S1, .i1⟩
  | .hbm, ⟨30, _⟩ => ⟨S_, .i32⟩
  | .hbm, ⟨31, _⟩ => ⟨S1, .i32⟩
  | .hbm, ⟨32, _⟩ => ⟨S1, .i32⟩
  | .hbm, ⟨33, _⟩ => ⟨S1, .i32⟩
  | .hbm, ⟨34, _⟩ => ⟨S1x1, .i32⟩
  | .hbm, ⟨35, _⟩ => ⟨S1, .f32⟩
  | .hbm, ⟨36, _⟩ => ⟨S1, .f32⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_4 : Ref sig .tc := ⟨.hbm, 27, rfl⟩
abbrev main_v17 : Ref sig .tc := ⟨.hbm, 28, rfl⟩
abbrev main_v18 : Ref sig .tc := ⟨.hbm, 29, rfl⟩
abbrev main_c_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== CountedIdeal.lean ====
abbrev S1 : Shape := ⟨1, ![1]⟩
abbrev S21 : Shape := ⟨1, ![21]⟩
abbrev S1x21 : Shape := ⟨2, ![1, 21]⟩
abbrev S1x1 : Shape := ⟨2, ![1, 1]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S1, .f32⟩
  | .hbm, ⟨1, _⟩ => ⟨S21, .f32⟩
  | .hbm, ⟨2, _⟩ => ⟨S21, .f32⟩
  | .hbm, ⟨3, _⟩ => ⟨S1x21, .f32⟩
  | .hbm, ⟨4, _⟩ => ⟨S1x1, .f32⟩
  | .hbm, ⟨5, _⟩ => ⟨S1x21, .f32⟩
  | .hbm, ⟨6, _⟩ => ⟨S1x21, .i1⟩
  | .hbm, ⟨7, _⟩ => ⟨S1x21, .i32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S1, .i32⟩
  | .hbm, ⟨13, _⟩ => ⟨S_, .i32⟩
  | .hbm, ⟨14, _⟩ => ⟨S1, .i32⟩
  | .hbm, ⟨15, _⟩ => ⟨S1, .i1⟩
  | .hbm, ⟨16, _⟩ => ⟨S_, .i32⟩
  | .hbm, ⟨17, _⟩ => ⟨S1, .i32⟩
  | .hbm, ⟨18, _⟩ => ⟨S1, .i32⟩
  | .hbm, ⟨19, _⟩ => ⟨S1, .i32⟩
  | .hbm, ⟨20, _⟩ => ⟨S1x1, .i32⟩
  | .hbm, ⟨21, _⟩ => ⟨S1, .f32⟩
  | .hbm, ⟨22, _⟩ => ⟨S_, .i32⟩
  | .hbm, ⟨23, _⟩ => ⟨S1, .i32⟩
  | .hbm, ⟨24, _⟩ => ⟨S1, .i1⟩
  | .hbm, ⟨25, _⟩ => ⟨S_, .i32⟩
  | .hbm, ⟨26, _⟩ => ⟨S1, .i32⟩
  | .hbm, ⟨27, _⟩ => ⟨S1, .i32⟩
  | .hbm, ⟨28, _⟩ => ⟨S1, .i32⟩
  | .hbm, ⟨29, _⟩ => ⟨S1x1, .i32⟩
  | .hbm, ⟨30, _⟩ => ⟨S1, .f32⟩
  | .hbm, ⟨31, _⟩ => ⟨S1, .f32⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_3 : Ref sig .tc := ⟨.hbm, 22, rfl⟩
abbrev main_v15 : Ref sig .tc := ⟨.hbm, 23, rfl⟩
abbrev main_v16 : Ref sig .tc := ⟨.hbm, 24, rfl⟩
abbrev main_c_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Proof.Launch.lean ====
/-
  The kernel's program as the SparseCore launch theorem reads it: its configuration, the ghost state that the handshakes
  and the kernel's two copies use, the arrays of the call, and what the call carries to SparseCore 0's sequencer and back.

  Everything is stated of `KernelIdeal` over any float values `F`. The program as printed is the same text, so its run is
  the instance at `Bits`.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.ValueIdxCore
public import Idealize.ShloMosaic.Lib.Tactic
public import proofs.«01_k».proof.Proof.Gen.KernelIdeal
public import proofs.«01_k».proof.Proof.Gen.KernelIdeal.Skeleton

@[expose] public section

noncomputable section

namespace Cert.Proof.Bucketize

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1)

variable {F : FTy → Type}

/-! ## The configuration -/

/-- The labels of the program's kernels: no TensorCore region, the one SparseCore kernel. -/
abbrev ΛP : Labels := Pipeline.Sig Λ₀ (Fin 0) fun p => (pcfgs (F := F) p).Adm
/-- The program's one SparseCore call. -/
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' four semaphores are unscoped and apart, and no buffer of a SparseCore is shared with its tiles. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The ghost state -/

abbrev UH : Type := URounds (GSem nD τ sig) ℕ
/-- The handshakes' rounds, and the counters that the kernel's two copies take their tokens from. -/
abbrev UU : Type := UH × Counters

local notation "𝕄" => MT nD τ sig (HIx 1) (Elt F) ℕ UU ℕ

abbrev EH : Emb UH (MT nD τ sig (HIx 1) (Elt F) ℕ UU ℕ) := embL

/-! ## The value -/

variable [FloatOps F]

/-- The kernel's chain of selections, on the packed words `w` (word 0 the prediction, words 1 to 21 the boundaries, words
    22 to 42 the adjustments): from the last bin down, bin `j`'s boundary plus its adjustment replaces what is chosen so
    far where the prediction is at most the boundary. -/
def chain (w : Fin 48 → F .f32) : F .f32 :=
  (List.finRange 20).foldr
    (fun j r => Scalar.select (Scalar.cmpf .ole (w 0) (w ⟨1 + j.val, by omega⟩))
      (Scalar.addf (w ⟨1 + j.val, by omega⟩) (w ⟨22 + j.val, by omega⟩)) r)
    (Scalar.addf (w 21) (w 42))

/-! ## The arrays and what the call carries -/

variable (m : (ℓ : Loc nD τ sig) → Buf (Elt F) ℓ)

abbrev pLoc (d : Dev nD) : Loc nD τ sig := (SparseCore.T d).loc main_arg0
abbrev bLoc (d : Dev nD) : Loc nD τ sig := (SparseCore.T d).loc main_arg1
abbrev tLoc (d : Dev nD) : Loc nD τ sig := (SparseCore.T d).loc main_arg2
/-- The packed vector, the call's operand. -/
abbrev gLoc (d : Dev nD) : Loc nD τ sig := (SparseCore.T d).loc main_v1
/-- The call's result, which is the program's. -/
abbrev oLoc (d : Dev nD) : Loc nD τ sig := (SparseCore.T d).loc main_v2

/-- The five zeros that pad the packed vector. -/
def zeros : FVec F S5 .f32 := broadcastInDim S5 ![] bcast_S_S5 (constant S_ .f32 0x00000000#32)

/-- What @main packs: the prediction, the boundaries, the adjustments, five zeros. -/
def packed (d : Dev nD) : FVec F S48 .f32 :=
  concatenate S48 0 [⟨S1, (m (pLoc d) : FVec F S1 .f32)⟩, ⟨S21, (m (bLoc d) : FVec F S21 .f32)⟩, ⟨S21, (m (tLoc d) : FVec F S21 .f32)⟩,
    ⟨S5, (zeros : FVec F S5 .f32)⟩] concatenates_S1_S21_S21_S5_S48_d0

/-- What the kernel leaves in its result's one word. -/
def outV (d : Dev nD) : Buf (Elt F) (oLoc d) := (fun _ => chain (fun k => packed m d (ix1 k)) : FVec F S1 .f32)

abbrev gPts (d : Dev nD) : sProp 𝕄 := gLoc d ↦{fullShare} (packed m d : Buf (Elt F) (gLoc d))
abbrev oPts (d : Dev nD) (f : Buf (Elt F) (oLoc d)) : sProp 𝕄 := oLoc d ↦{fullShare} f

/-- The call takes the packed vector and the result, at whatever it holds, to the sequencer, and brings them back with the
    result at `outV`. The kernel needs nothing of its own. -/
def P : (K (F := F)).Pay (nD := nD) (Val := Elt F) (Name := ℕ) (U := UU) where
  st := fun _ d _ => iprop(gPts m d ∗ ∃ f, oPts d f)
  dn := fun _ d _ => iprop(gPts m d ∗ oPts d (outV m d))
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

end Cert.Proof.Bucketize

end
-- ==== Proof.Body.lean ====
/-
  The kernel's body on SparseCore 0's sequencer: one copy brings the packed vector into scalar memory, forty-three words
  of it are read and folded into one, and one copy takes that word to the result.
-/
module

public import proofs.«01_k».proof.Proof.Launch

@[expose] public section

noncomputable section

namespace Cert.Proof.Bucketize

open Cert.KernelIdeal Cert.KernelIdeal.Gen
open Idealize.ShloMosaic
open Idealize.ShloMosaic.SparseCore (S V T)
open Idealize.ShloMosaic.SparseCore.Cfg (HIx Pay ownSems0 ownBufs ownCells ownRefs mem_ownCells mem_ownRefs scopedSems0_S)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1)

variable {F : FTy → Type} [FloatOps F]

local notation "𝕄" => MT nD τ sig (HIx 1) (Elt F) ℕ UU ℕ

variable (m : (ℓ : Loc nD τ sig) → Buf (Elt F) ℓ) (d : Dev nD)

/-- The kernel's one grid coordinate. -/
def coordsS (c : Fin (grid0.bound 0)) : grid0.Coords := fun | 0 => c | ⟨_ + 1, h⟩ => absurd h (Nat.not_lt.2 (Nat.le_add_left _ _))

/-- SparseCore 0's sequencer. -/
abbrev S0 (h : 0 < grid0.bound 0) : Thread nD τ := S d ((⟨0, h⟩ : Fin (grid0.bound 0)).castLE hcore0)

/-! ## The kernel's references -/

abbrev gW : Memref sig .scScalar .hbm S48 .f32 := Memref.whole main_v1_scs
abbrev oW : Memref sig .scScalar .hbm S1 .f32 := Memref.whole main_v2_scs
abbrev aW : Memref sig .scScalar .smem S48 .f32 := Memref.whole cc0_scratch0
abbrev rW : Memref sig .scScalar .smem S1 .f32 := Memref.whole cc0_scratch1

/-- The sequencer's two scalar-memory buffers: the packed vector's copy and the result's word. -/
abbrev aLoc (c : Fin τ.nSC) : Loc nD τ sig := (S d c).loc cc0_scratch0
abbrev rLoc (c : Fin τ.nSC) : Loc nD τ sig := (S d c).loc cc0_scratch1

/-- The two cells that the copies in and out are awaited on. -/
abbrev inCell (c : Fin τ.nSC) : GSem nD τ sig := (S d c, .dma cc0_scoped0.sem)
abbrev outCell (c : Fin τ.nSC) : GSem nD τ sig := (S d c, .dma cc0_scoped1.sem)

/-! ## The sequencer's own storage, opened at what the kernel names -/

omit [FloatOps F] in
theorem dma_own (c : Fin τ.nSC) (s : DmaSem sig) : ((S d c, .dma s) : GSem nD τ sig) ∈ ownCells (S d c) :=
  mem_ownCells.mpr ⟨rfl, (show ∀ s : DmaSem sig, (SemLoc.dma s : SemLoc sig).isScoped .scScalar = true by decide) s⟩

omit [FloatOps F] in
theorem outCell_ne (c : Fin τ.nSC) : outCell d c ≠ inCell d c := fun h =>
  absurd (congrArg (fun g : GSem nD τ sig => g.2) h) (show ¬ (SemLoc.dma cc0_scoped1.sem : SemLoc sig) = SemLoc.dma cc0_scoped0.sem by decide)

omit [FloatOps F] in
/-- The sequencer's own cells at zero are the two the kernel names and the rest. -/
theorem ownSems0_S (c : Fin τ.nSC) :
    (ownSems0 (S d c) : sProp 𝕄)
      = iprop(semVal (inCell d c) 0 ∗ semVal (outCell d c) 0
          ∗ bigSep (((ownCells (S d c)).erase (inCell d c)).erase (outCell d c)) fun g => semVal g 0) := by
  unfold SparseCore.Cfg.ownSems0
  rw [SparseCore.bigSep_erase' (dma_own d c cc0_scoped0.sem),
    SparseCore.bigSep_erase' (Finset.mem_erase.mpr ⟨outCell_ne d c, dma_own d c cc0_scoped1.sem⟩)]

omit [FloatOps F] in
/-- The sequencer's own buffers are the two the kernel names, each at some contents, and the rest. -/
theorem ownBufs_S (c : Fin τ.nSC) :
    (ownBufs (S d c) : sProp 𝕄)
      = iprop((∃ f, aLoc d c ↦{fullShare} f) ∗ (∃ f, rLoc d c ↦{fullShare} f)
          ∗ bigSep (((ownRefs (τ := τ) (.scScalar c)).erase ((Proc.scScalar c).devRef cc0_scratch0)).erase ((Proc.scScalar c).devRef cc0_scratch1))
              fun b => iprop(∃ f, ((d, b) : Loc nD τ sig) ↦{fullShare} f)) := by
  unfold SparseCore.Cfg.ownBufs
  rw [SparseCore.bigSep_erase' ((mem_ownRefs (p := Proc.scScalar c) (b := (Proc.scScalar c).devRef cc0_scratch0)).mpr rfl),
    SparseCore.bigSep_erase' (s := (ownRefs (τ := τ) (.scScalar c)).erase ((Proc.scScalar c).devRef cc0_scratch0)) (Finset.mem_erase.mpr
      ⟨fun h => absurd ((Proc.devRef_injective _) h) (show ¬ cc0_scratch1 = cc0_scratch0 by decide),
        (mem_ownRefs (p := Proc.scScalar c) (b := (Proc.scScalar c).devRef cc0_scratch1)).mpr rfl⟩)]

/-! ## The buffers as the sequencer addresses them -/

omit [FloatOps F] in
theorem pts_g (c : Fin τ.nSC) (f : Buf (Elt F) (gLoc d)) :
    ((gW).view.loc (S d c) ↦{fullShare} f : sProp 𝕄) = gLoc d ↦{fullShare} f := by
  simp only [Memref.view_whole, View.set_whole]
omit [FloatOps F] in
theorem pts_o (c : Fin τ.nSC) (f : Buf (Elt F) (oLoc d)) :
    ((oW).view.loc (S d c) ↦{fullShare} f : sProp 𝕄) = oLoc d ↦{fullShare} f := by
  simp only [Memref.view_whole, View.set_whole]
omit [FloatOps F] in
theorem pts_a (c : Fin τ.nSC) (f : Buf (Elt F) (aLoc d c)) :
    ((aW).view.loc (S d c) ↦{fullShare} f : sProp 𝕄) = aLoc d c ↦{fullShare} f := by
  simp only [Memref.view_whole, View.set_whole]
omit [FloatOps F] in
theorem pts_r (c : Fin τ.nSC) (f : Buf (Elt F) (rLoc d c)) :
    ((rW).view.loc (S d c) ↦{fullShare} f : sProp 𝕄) = rLoc d c ↦{fullShare} f := by
  simp only [Memref.view_whole, View.set_whole]

/-! ## The body -/

/-- What a one-word load at offset `k` of the scalar memory's copy of `g` returns: word `k` of `g`. -/
theorem load_word (c : Fin τ.nSC) (g : FVec F S48 .f32) (fa : Buf (Elt F) ((aW).view.loc (S d c))) (k : Fin 48)
    (hk : ∀ a, (![k.val] : Fin 1 → ℕ) a + S1.size a ≤ S48.size a) (hp : 0 < (Rect.unit (s := S48) ![k.val] S1.size hk).shape.numel) :
    View.readAt (Elt F) aW.view (Rect.unit (s := S48) ![k.val] S1.size hk).toLoadRect
        (View.write (Elt F) aW.view fa (g : S48.Idx → Elt F .f32) Finset.univ) (Shape.Idx.first hp)
      = g (ix1 k) := by
  rw [show View.write (Elt F) aW.view fa (g : S48.Idx → Elt F .f32) Finset.univ = g from View.write_whole_univ cc0_scratch0 fa _]
  show g _ = g _
  congr 1
  funext a
  exact Fin.ext (by fin_cases a; show k.val + 1 * 0 = k.val; omega)

/-- From the packed vector at `g`, the body ends with the result's word at the chain over the words of `g`, everything else as it was or at some
    contents. -/
theorem body_run (h : 0 < grid0.bound 0) (O : CellTallies nD τ sig (HIx 1)) (W : Waits sig (HIx 1))
    (g : FVec F S48 .f32)
    (fo : Buf (Elt F) ((oW).view.loc (S0 d h))) (fa : Buf (Elt F) ((aW).view.loc (S0 d h))) (fr : Buf (Elt F) ((rW).view.loc (S0 d h))) :
    (iprop(Transfers.MayWaits (S0 d h) (none : HIx 1) O
        ∗ ((gW).view.loc (S0 d h) ↦{fullShare} (g : Buf (Elt F) ((gW).view.loc (S0 d h))))
        ∗ ((oW).view.loc (S0 d h) ↦{fullShare} fo)
        ∗ ((aW).view.loc (S0 d h) ↦{fullShare} fa)
        ∗ ((rW).view.loc (S0 d h) ↦{fullShare} fr)
        ∗ semVal (S0 d h, SemLoc.dma cc0_scoped0.sem) 0 ∗ semVal (S0 d h, SemLoc.dma cc0_scoped1.sem) 0
        ∗ owes (S0 d h) O W) : sProp 𝕄)
      ⊢ wp frame (wpE (defs₀ (F := F)) 𝒱₀ (S0 d h) none) Set.univ
          (cc0__scs_body (coordsS ⟨0, h⟩) gW (Memref.isWhole_whole _) oW (Memref.isWhole_whole _)
            aW (Memref.isWhole_whole _) rW (Memref.isWhole_whole _) cc0_scoped0 cc0_scoped1)
          fun _ => iprop(((gW).view.loc (S0 d h) ↦{fullShare} (g : Buf (Elt F) ((gW).view.loc (S0 d h))))
            ∗ ((oW).view.loc (S0 d h) ↦{fullShare} ((fun _ => chain (fun k => g (ix1 k)) : FVec F S1 .f32) : Buf (Elt F) ((oW).view.loc (S0 d h))))
            ∗ (∃ f, (aW).view.loc (S0 d h) ↦{fullShare} f)
            ∗ (∃ f, (rW).view.loc (S0 d h) ↦{fullShare} f)
            ∗ semVal (S0 d h, SemLoc.dma cc0_scoped0.sem) 0 ∗ semVal (S0 d h, SemLoc.dma cc0_scoped1.sem) 0
            ∗ ∃ W', owes (S0 d h) O W') := by
  have k0_h1 : Scalar.cmpi .ne (Scalar.extui (Scalar.cmpi .eq (BitVec.ofNat 32 ((coordsS ⟨0, h⟩) 0).val) 0#32) : BitVec 32) 0#32 = 1#1 := by
    decide +revert
  rw [cc0__scs_body_eq_skeleton]; unfold cc0__scs_body_skel
  rw [k0_part1_eq_skeleton, k0_part2_eq_skeleton, k0_part3_eq_skeleton, k0_part4_eq_skeleton]
  unfold k0_part1_skel k0_part2_skel k0_part3_skel k0_part4_skel
  iintro ⟨#Hmw, Hg, Ho, Ha, Hr, Hc0, Hc1, HO⟩
  sl_exec
  sl_step
  have hv : View.write (Elt F) oW.view fo (body_run.sl.dma65 d h g fa fr) Finset.univ
      = ((fun _ => chain (fun k => g (ix1 k)) : FVec F S1 .f32) : Buf (Elt F) ((oW).view.loc (S0 d h))) := by
    refine (View.write_whole_univ main_v2_scs fo _).trans ?_
    refine (congrArg (View.read (Elt F) rW.view)
      (Memref.write_access_unit_zero_univ (Elt F) cc0_scratch1 (off := ![0]) (by decide) inb_S1_S1_0 fr _)).trans ?_
    funext _
    refine Eq.trans ?_ (congrArg chain (funext fun k : Fin 48 =>
      load_word (F := F) d ((⟨0, h⟩ : Fin (grid0.bound 0)).castLE hcore0) g fa k (fun a => ?_) (numel1_S1.symm ▸ Nat.one_pos)))
    · rfl
    · have := k.isLt; fin_cases a; show k.val + 1 ≤ 48; omega
  rw [hv]
  isplitl [Hg]; · iexact Hg
  isplitl [Ho]; · iexact Ho
  isplitl [Ha]; · iexists _; iexact Ha
  isplitl [Hr]; · iexists _; iexact Hr
  isplitl [Hc0]; · iexact Hc0
  isplitl [Hc1]; · iexact Hc1
  iexists _; iexact HO

/-- The same from what the launch hands SparseCore 0's sequencer: the call's arrays, the sequencer's scoped storage, what it
    owes. -/
theorem body_obl (h : 0 < grid0.bound 0) (O : CellTallies nD τ sig (HIx 1)) (W : Waits sig (HIx 1)) (hO : ∀ g, O g none = 0) :
    iprop(levAts (K (F := F)).L (K (F := F)).lev ∗ emp ∗ (gPts m d ∗ ∃ f, oPts d f)
        ∗ scopedBufs (S0 d h) ∗ scopedSems0 (S0 d h) ∗ owes (S0 d h) O W)
      ⊢ wp frame (wpE (defs₀ (F := F)) 𝒱₀ (S0 d h) none) Set.univ
          (cc0__scs_body (coordsS ⟨0, h⟩) gW (Memref.isWhole_whole _) oW (Memref.isWhole_whole _)
            aW (Memref.isWhole_whole _) rW (Memref.isWhole_whole _) cc0_scoped0 cc0_scoped1)
          fun _ => iprop((gPts m d ∗ oPts d (outV m d)) ∗ scopedBufs (S0 d h) ∗ scopedSems0 (S0 d h)
            ∗ ∃ W', ⌜∀ p ∈ W', p ∈ W ∨ p.2 = none ∨ p.2 = some (0 : Fin 1)⌝ ∗ owes (S0 d h) O W') := by
  rw [(K (F := F)).scopedBufs_S facts d _, scopedSems0_S (Val := Elt F) d _, ownSems0_S, ownBufs_S]
  iintro ⟨#Hlv, -, ⟨Hg, %fo, Ho⟩, ⟨⟨⟨%fa, Ha⟩, ⟨%fr, Hr⟩, Hbufs⟩, Htiles⟩, ⟨⟨Hc0, Hc1, Hsems⟩, HtileSems⟩, HO⟩
  ihave Hmw := ((K (F := F)).mayWaits_none (thr := S0 d h) hO) $$ Hlv
  ihave Hg' := (Entails.of_eq (pts_g (F := F) d _ _).symm) $$ Hg
  ihave Ho' := (Entails.of_eq (pts_o (F := F) d _ _).symm) $$ Ho
  ihave Ha' := (Entails.of_eq (pts_a (F := F) d _ _).symm) $$ Ha
  ihave Hr' := (Entails.of_eq (pts_r (F := F) d _ _).symm) $$ Hr
  iapply (wp_wand_r Idealize.ShloMosaic.frame (wpE (defs₀ (F := F)) 𝒱₀ (S0 d h) none) Set.univ)
  isplitl [Hg' Ho' Ha' Hr' Hc0 Hc1 HO]
  · iapply (body_run d h O W (packed m d) _ _ _)
    isplitr; · iexact Hmw
    isplitl [Hg']; · iexact Hg'
    isplitl [Ho']; · iexact Ho'
    isplitl [Ha']; · iexact Ha'
    isplitl [Hr']; · iexact Hr'
    isplitl [Hc0]; · iexact Hc0
    isplitl [Hc1]; · iexact Hc1
    iexact HO
  iintro %_ ⟨Hg', Ho', ⟨%f1, Ha'⟩, ⟨%f2, Hr'⟩, Hc0, Hc1, %W', HO⟩
  isplitl [Hg' Ho']
  · isplitl [Hg']; · iapply (Entails.of_eq (pts_g (F := F) d _ _)); iexact Hg'
    iapply (Entails.of_eq (pts_o (F := F) d _ _)); iexact Ho'
  isplitl [Ha' Hr' Hbufs Htiles]
  · isplitl [Ha' Hr' Hbufs]
    · isplitl [Ha']; · iexists _; iapply (Entails.of_eq (pts_a (F := F) d _ _)); iexact Ha'
      isplitl [Hr']; · iexists _; iapply (Entails.of_eq (pts_r (F := F) d _ _)); iexact Hr'
      iexact Hbufs
    iexact Htiles
  isplitl [Hc0 Hc1 Hsems HtileSems]
  · isplitl [Hc0 Hc1 Hsems]
    · isplitl [Hc0]; · iexact Hc0
      isplitl [Hc1]; · iexact Hc1
      iexact Hsems
    iexact HtileSems
  iexists W'; isplitr
  · ipureintro; intro p _
    rcases p.2 with _ | q
    · exact .inr (.inl rfl)
    · exact .inr (.inr (congrArg some (Subsingleton.elim q 0)))
  · iexact HO

/-! ## The launch theorem's obligation -/

theorem defs₀_scalar (c : Fin τ.nSC) :
    defs₀ (F := F) (.scScalar c) 0 ()
      = SparseCore.onCore hcore0 (fun c => cc0__scs_body (coordsS c) gW (Memref.isWhole_whole _) oW (Memref.isWhole_whole _)
          aW (Memref.isWhole_whole _) rW (Memref.isWhole_whole _) cc0_scoped0 cc0_scoped1) ⟨⟩ c := rfl

/-- The obligation of the program's one call: on the one SparseCore of its grid, the sequencer runs the body. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  match c with
  | ⟨0, h⟩ => exact body_obl m d h O W hO

end Cert.Proof.Bucketize

end
-- ==== Proof.Run.lean ====
/-
  The kernel's program run from any launch memory, over any float values: it ends, its result's one word is the chain of
  selections over the packed vector, its arguments are as they were, and every semaphore is at zero.
-/
module

public import proofs.«01_k».proof.Proof.Body

@[expose] public section

noncomputable section

namespace Cert.Proof.Bucketize

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic
open Idealize.ShloMosaic.ValueIdx (ix1)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The ghost state at the launch -/

/-- The handshakes' rounds at their first, no counter in use. -/
def u₀ : UU := (initOf (K (F := F)).hsCells (K (F := F)).hsToks, 1)

omit [FloatOps F] in
theorem bigSep_nothing {I : Type} (s : Finset I) : (bigSep s fun _ => iprop(emp)) = (iprop(emp) : sProp 𝕄) := bigSep_emp_const s

/-- The launch's ghost state is the handshakes' and, for each device and each thread, nothing. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

/-! ## @main's operations before the call, over the TensorCore's arrays -/

abbrev p' : DevRef τ sig := Proc.devRef .tc (main_arg0 : Ref sig .tc)
abbrev b' : DevRef τ sig := Proc.devRef .tc (main_arg1 : Ref sig .tc)
abbrev t' : DevRef τ sig := Proc.devRef .tc (main_arg2 : Ref sig .tc)
abbrev c' : DevRef τ sig := Proc.devRef .tc (main_cst : Ref sig .tc)
abbrev z' : DevRef τ sig := Proc.devRef .tc (main_v0 : Ref sig .tc)
abbrev g' : DevRef τ sig := Proc.devRef .tc (main_v1 : Ref sig .tc)
abbrev o' : DevRef τ sig := Proc.devRef .tc (main_v2 : Ref sig .tc)

abbrev opCst : HloOp τ sig (Elt F) := StableHlo.nullary main_cst (constant S_ .f32 0x00000000#32)
abbrev opPad : HloOp τ sig (Elt F) :=
  StableHlo.unary main_cst main_v0 (broadcastInDim S5 ![] bcast_S_S5 : (⟨S_, .f32⟩ : BufTy).Contents (Elt F) → (⟨S5, .f32⟩ : BufTy).Contents (Elt F))
abbrev opPack : HloOp τ sig (Elt F) :=
  StableHlo.nary ![main_arg0, main_arg1, main_arg2, main_v0] main_v1 (fun u => (concatenate S48 0
    [⟨S1, (u 0 : (⟨S1, .f32⟩ : BufTy).Contents (Elt F))⟩, ⟨S21, (u 1 : (⟨S21, .f32⟩ : BufTy).Contents (Elt F))⟩,
      ⟨S21, (u 2 : (⟨S21, .f32⟩ : BufTy).Contents (Elt F))⟩, ⟨S5, (u 3 : (⟨S5, .f32⟩ : BufTy).Contents (Elt F))⟩]
    concatenates_S1_S21_S21_S5_S48_d0 : (⟨S48, .f32⟩ : BufTy).Contents (Elt F)))

/-- The TensorCore's arrays, none of them scoped. -/
abbrev arrays : Finset (DevRef τ sig) := {p', b', t', c', z', g', o'}

omit [FloatOps F] in
/-- The arrays held at a valuation, one by one. -/
theorem held_arrays (d : Dev nD) (W : Valuation τ sig (Elt F)) :
    (held (T d) arrays W : sProp 𝕄)
      = iprop((pLoc d ↦{fullShare} W p') ∗ (bLoc d ↦{fullShare} W b') ∗ (tLoc d ↦{fullShare} W t')
          ∗ ((SparseCore.T d).loc main_cst ↦{fullShare} W c') ∗ ((SparseCore.T d).loc main_v0 ↦{fullShare} W z')
          ∗ (gLoc d ↦{fullShare} W g') ∗ oLoc d ↦{fullShare} W o') := by
  unfold held arrays
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch's valuation. -/
def V0 (d : Dev nD) : Valuation τ sig (Elt F) := fun b => m (d, b)
/-- The valuation at the call: the three operations' results. -/
def V3 (d : Dev nD) : Valuation τ sig (Elt F) := (opPack (F := F)).result ((opPad (F := F)).result ((opCst (F := F)).result (V0 m d)))

omit [FloatOps F] in
theorem unscoped_held (d : Dev nD) : (unscopedBufs d (fun b => m ((SparseCore.T d).loc b)) : sProp 𝕄) = held (T d) arrays (V0 m d) := by
  rw [held_arrays]
  unfold unscopedBufs
  rw [show (Finset.univ.filter fun b : Ref sig .tc => ¬ b.isScoped) = {main_arg0, main_arg1, main_arg2, main_cst, main_v0, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-- No operation before the call writes an array that is not one of their three results. -/
theorem V3_of_ne (d : Dev nD) (x : DevRef τ sig) (hc : x ≠ c') (hz : x ≠ z') (hg : x ≠ g') : V3 m d x = m (d, x) := by
  unfold V3
  rw [(opPack (F := F)).result_of_not_mem _ (show x ∉ ({g'} : Finset (DevRef τ sig)) by simpa using hg),
    (opPad (F := F)).result_of_not_mem _ (show x ∉ ({z'} : Finset (DevRef τ sig)) by simpa using hz),
    (opCst (F := F)).result_of_not_mem _ (show x ∉ ({c'} : Finset (DevRef τ sig)) by simpa using hc)]
  rfl

/-- At the call, the operand's array is the packed vector. -/
theorem V3_g (d : Dev nD) : V3 m d g' = packed m d := by
  unfold V3
  refine (StableHlo.nary_result _ _ _ _ _ _).trans ?_
  have hz : (opPad (F := F)).result ((opCst (F := F)).result (V0 m d)) z' = (zeros : FVec F S5 .f32) :=
    by
    refine (StableHlo.unary_result _ _ _ _ _ _).trans ?_
    rw [show (opCst (F := F)).result (V0 m d) (Proc.devRef .tc main_cst) = _ from StableHlo.nullary_result _ _ _ _]
    rfl
  have hk (x : DevRef τ sig) (hz : x ≠ z') (hc : x ≠ c') : (opPad (F := F)).result ((opCst (F := F)).result (V0 m d)) x = m (d, x) := by
    rw [(opPad (F := F)).result_of_not_mem _ (show x ∉ ({z'} : Finset (DevRef τ sig)) by simpa using hz),
      (opCst (F := F)).result_of_not_mem _ (show x ∉ ({c'} : Finset (DevRef τ sig)) by simpa using hc)]
    rfl
  unfold packed
  rw [show (zeros : FVec F S5 .f32) = _ from hz.symm, show (m (pLoc d) : FVec F S1 .f32) = _ from (hk p' (by decide) (by decide)).symm,
    show (m (bLoc d) : FVec F S21 .f32) = _ from (hk b' (by decide) (by decide)).symm,
    show (m (tLoc d) : FVec F S21 .f32) = _ from (hk t' (by decide) (by decide)).symm]
  rfl

/-- The arrays at the call: the arguments as at the launch, the operand packed. -/
theorem held_V3 (d : Dev nD) :
    (held (T d) arrays ((opPack (F := F)).result ((opPad (F := F)).result ((opCst (F := F)).result (V0 m d)))) : sProp 𝕄)
      = iprop((pLoc d ↦{fullShare} m (pLoc d)) ∗ (bLoc d ↦{fullShare} m (bLoc d)) ∗ (tLoc d ↦{fullShare} m (tLoc d))
          ∗ ((SparseCore.T d).loc main_cst ↦{fullShare} V3 m d c') ∗ ((SparseCore.T d).loc main_v0 ↦{fullShare} V3 m d z')
          ∗ gPts m d ∗ oPts d (V3 m d o')) := by
  show held (SparseCore.T d) arrays (V3 m d) = _
  rw [held_arrays, V3_of_ne m d p' (by decide) (by decide) (by decide), V3_of_ne m d b' (by decide) (by decide) (by decide),
    V3_of_ne m d t' (by decide) (by decide) (by decide), V3_g]

/-! ## @main -/

theorem st0_eq (d : Dev nD) : (bigSep Finset.univ fun c : Fin ((K (F := F)).nCore 0) => (P m).st 0 d c) = iprop(gPts m d ∗ ∃ f, oPts d f) :=
  bigSep_univ_of_subsingleton (0 : Fin 1)
theorem dn0_eq (d : Dev nD) : (bigSep Finset.univ fun c : Fin ((K (F := F)).nCore 0) => (P m).dn 0 d c) = iprop(gPts m d ∗ oPts d (outV m d)) :=
  bigSep_univ_of_subsingleton (0 : Fin 1)

theorem hCst : (opCst (F := F)).bufs ⊆ arrays := show ({c'} : Finset (DevRef τ sig)) ⊆ arrays by decide
theorem hPad : (opPad (F := F)).bufs ⊆ arrays := show ({c', z'} : Finset (DevRef τ sig)) ⊆ arrays by decide
theorem hPack : (opPack (F := F)).bufs ⊆ arrays := by
  show insert g' (Finset.univ.image fun k : Fin 4 => (Proc.devRef .tc ((![main_arg0, main_arg1, main_arg2, main_v0] : Fin 4 → Ref sig .tc) k) : DevRef τ sig)) ⊆ arrays
  decide

/-- What @main leaves: the arguments as at the launch, the result's word at the chain's value. -/
abbrev FIN (d : Dev nD) : sProp 𝕄 :=
  iprop((pLoc d ↦{fullShare} m (pLoc d)) ∗ (bLoc d ↦{fullShare} m (bLoc d)) ∗ (tLoc d ↦{fullShare} m (tLoc d)) ∗ oPts d (outV m d))

/-- @main on device `d`'s TensorCore: the three operations, then the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opCst) (S := arrays) hCst (V := V0 m d)) $$ [Hb Hheld]
  · isplitl [Hb] <;> iassumption
  iintro ⟨Hb, Hheld⟩
  rw [wp_ret]; imodintro
  iapply (wp_hlo_within 𝒱 (SparseCore.T d) none Set.univ (op := opPad) (S := arrays) hPad (V := (opCst (F := F)).result (V0 m d))) $$ [Hb Hheld]
  · isplitl [Hb] <;> iassumption
  iintro ⟨Hb, Hheld⟩
  rw [wp_ret]; imodintro
  iapply (wp_hlo_within 𝒱 (SparseCore.T d) none Set.univ (op := opPack) (S := arrays) hPack (V := (opPad (F := F)).result ((opCst (F := F)).result (V0 m d)))) $$ [Hb Hheld]
  · isplitl [Hb] <;> iassumption
  iintro ⟨Hb, Hheld⟩
  rw [wp_ret]; imodintro
  ihave Hh := (Entails.of_eq (held_V3 (F := F) m d)) $$ Hheld
  icases Hh with ⟨Hp, Hbv, Ht, Hc, Hz, Hg, Ho⟩
  iapply ((K (F := F)).wp_run (D (F := F)) 𝒱 (EH := EH) (P := P m) κ d 0) $$ [Hst Hg Ho Hb Hp Hbv Ht Hts]
  isplitr; · iexact Hctx
  isplitl [Hst]; · iexact Hst
  isplitl [Hg Ho]
  · rw [st0_eq]
    isplitl [Hg]; · iexact Hg
    iexists _; iexact Ho
  iintro ⟨Hst, Hdn⟩
  ihave Hdn' := (Entails.of_eq (dn0_eq m d)) $$ Hdn
  icases Hdn' with ⟨-, Ho⟩
  imodintro
  isplitl [Hst]; · iexact Hst
  isplitr [Hb Hts]
  · isplitl [Hp]; · iexact Hp
    isplitl [Hbv]; · iexact Hbv
    isplitl [Ht]; · iexact Ht
    iexact Ho
  isplitl [Hb] <;> iassumption

/-! ## The program's run -/

/-- What the claims read of device `d`'s final memory. -/
def fq (d : Dev nD) (s' : Phys nD τ sig (Elt F)) : Prop :=
  s'.mem.mem (oLoc d) = outV m d ∧ s'.mem.mem (pLoc d) = m (pLoc d) ∧ s'.mem.mem (bLoc d) = m (bLoc d) ∧ s'.mem.mem (tLoc d) = m (tLoc d)

omit [FloatOps F] in
/-- An array held whole at `f` is at `f` in the memory, and stays held. -/
theorem agree_whole (s' : Phys nD τ sig (Elt F)) (ℓ : Loc nD τ sig) (f : Buf (Elt F) ℓ) :
    (iprop(SI s' ∗ ℓ ↦{fullShare} f) : sProp 𝕄) ⊢ iprop(⌜s'.mem.mem ℓ = f⌝ ∗ SI s') := by
  iintro H
  ihave H := (persistent_entails_right (SI_pointsTo_agree (st := s') (ℓ := ℓ) (I := Finset.univ) (q := fullShare) (f := f))) $$ H
  icases H with ⟨%h, HSI, -⟩
  isplitr; · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨Hp, Hb, Ht, Ho⟩, HSI⟩
  ihave H := (agree_whole (F := F) s' _ _) $$ [HSI Hp]
  · isplitl [HSI] <;> iassumption
  icases H with ⟨%hp, HSI⟩
  ihave H := (agree_whole (F := F) s' _ _) $$ [HSI Hb]
  · isplitl [HSI] <;> iassumption
  icases H with ⟨%hb, HSI⟩
  ihave H := (agree_whole (F := F) s' _ _) $$ [HSI Ht]
  · isplitl [HSI] <;> iassumption
  icases H with ⟨%ht, HSI⟩
  ihave H := (agree_whole (F := F) s' _ _) $$ [HSI Ho]
  · isplitl [HSI] <;> iassumption
  icases H with ⟨%ho, -⟩
  ipureintro; exact ⟨ho, hp, hb, ht⟩

/-- The final states of `run_main`. -/
def QC : PUnit × MemSt nD τ sig (Elt F) → Prop := fun r =>
  (∀ c : Dev nD, r.2.mem (oLoc c) = outV m c ∧ r.2.mem (pLoc c) = m (pLoc c) ∧ r.2.mem (bLoc c) = m (bLoc c) ∧ r.2.mem (tLoc c) = m (tLoc c))
    ∧ r.2.sem = fun _ => 0

/-- From any launch memory and generators, semaphores at zero, every run of the program ends with the result's word at the
    chain's value over the packed arguments, the arguments unchanged, every semaphore at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h hz => ⟨h, hz⟩)

end Cert.Proof.Bucketize

end
-- ==== Proof.Bucket.lean ====
/-
  The bin that a prediction falls in, and the kernel's value by it.

  A mask of twenty-one bits says for each boundary whether the prediction is at most it. The bin is the first set bit, or
  the last place where none is set. The kernel's chain of selections takes the boundary of that bin plus its adjustment;
  this holds over any float values.
-/
module

public import proofs.«01_k».proof.Proof.Launch
public import Idealize.ShloMosaic.Lib.Pipeline.Value

@[expose] public section

noncomputable section

namespace Cert.Proof.Bucketize

open Cert.KernelIdeal Cert.KernelIdeal.Gen
open Idealize.ShloMosaic
open Idealize.ShloMosaic.ValueIdx (ix1)

/-! ## The bin -/

/-- `i` is the first set bit of the mask, or the last place where no bit before it is set. -/
def IsBin {n : Nat} (mask : Fin (n + 1) → BitVec 1) (i : Fin (n + 1)) : Prop :=
  (∀ j < i, mask j ≠ 1#1) ∧ (mask i = 1#1 ∨ i = Fin.last n)

/-- Every mask has its bin. -/
theorem exists_isBin {n : Nat} (mask : Fin (n + 1) → BitVec 1) : ∃ i, IsBin mask i := by
  by_cases h : ∃ j, mask j = 1#1
  · obtain ⟨i, hi, hmin⟩ := WellFounded.has_min (wellFounded_lt (α := Fin (n + 1))) {j | mask j = 1#1} h
    exact ⟨i, fun j hj e => hmin j e hj, Or.inl hi⟩
  · exact ⟨Fin.last n, fun j _ e => h ⟨j, e⟩, Or.inr rfl⟩

/-- Selections folded from the last place down choose the value at the bin. -/
theorem foldr_select_eq {α : Type} : ∀ {n : Nat} (mask : Fin (n + 1) → BitVec 1) (v : Fin (n + 1) → α) (i : Fin (n + 1)),
    IsBin mask i →
    (List.finRange n).foldr (fun j r => Scalar.select (mask j.castSucc) (v j.castSucc) r) (v (Fin.last n)) = v i
  | 0, mask, v, i, _ =>
    (Subsingleton.elim (α := Fin 1) (Fin.last 0) i) ▸ rfl
  | n + 1, mask, v, i, h => by
    rw [List.finRange_succ, List.foldr_cons, List.foldr_map]
    induction i using Fin.cases with
    | zero =>
      have h0 : mask 0 = 1#1 := h.2.resolve_right (by simp [Fin.ext_iff])
      exact if_pos h0
    | succ k =>
      have h0 : mask 0 ≠ 1#1 := h.1 0 (Fin.succ_pos k)
      have hk : IsBin (fun j => mask j.succ) k :=
        ⟨fun j hj => h.1 j.succ (Fin.succ_lt_succ_iff.mpr hj),
          h.2.imp id fun e => Fin.succ_injective _ (by rw [e, Fin.succ_last])⟩
      have ih := foldr_select_eq (fun j => mask j.succ) (fun j => v j.succ) k hk
      exact (if_neg h0).trans ih

variable {F : FTy → Type} [FloatOps F]

/-- The mask of a prediction `p` against the boundaries `b`: which of them it is at most. -/
def below (p : F .f32) (b : Fin 21 → F .f32) : Fin 21 → BitVec 1 := fun j => Scalar.cmpf .ole p (b j)

/-- The chain on words that hold the prediction, the boundaries and the adjustments is the boundary of the prediction's bin
    plus its adjustment. -/
theorem chain_eq (w : Fin 48 → F .f32) (p : F .f32) (b t : Fin 21 → F .f32) (hp : w 0 = p)
    (hb : ∀ j : Fin 21, w ⟨1 + j.val, by omega⟩ = b j) (ht : ∀ j : Fin 21, w ⟨22 + j.val, by omega⟩ = t j) (i : Fin 21)
    (hi : IsBin (below p b) i) : chain w = Scalar.addf (b i) (t i) := by
  have hlast : Scalar.addf (w 21) (w 42) = Scalar.addf (b (Fin.last 20)) (t (Fin.last 20)) :=
    congrArg₂ Scalar.addf (hb (Fin.last 20)) (ht (Fin.last 20))
  unfold chain
  rw [hlast, ← foldr_select_eq (below p b) (fun j => Scalar.addf (b j) (t j)) i hi]
  congr 1
  funext j r
  have e1 := hb j.castSucc
  have e2 := ht j.castSucc
  simp only [Fin.val_castSucc] at e1 e2
  rw [hp, e1, e2]
  rfl

/-! ## The packed words -/

variable (m : (ℓ : Loc nD τ sig) → Buf (Elt F) ℓ) (d : Dev nD)

/-- The prediction, the boundaries and the adjustments that a launch memory holds. -/
def pred : F .f32 := (m (pLoc d) : FVec F S1 .f32) (ix1 0)
def bnd (j : Fin 21) : F .f32 := (m (bLoc d) : FVec F S21 .f32) (ix1 j)
def adj (j : Fin 21) : F .f32 := (m (tLoc d) : FVec F S21 .f32) (ix1 j)

/-- Word 0 of the packed vector is the prediction. -/
theorem packed_pred : packed m d (ix1 0) = pred m d :=
  concatenate_apply_piece (t := S48) 0 _ _ (ix1 0) 0 (by show 0 < 4; decide) S1 _ rfl rfl 0 rfl (ix1 0)
    (fun b hb => absurd (Subsingleton.elim _ _) hb) rfl

/-- Words 1 to 21 are the boundaries. -/
theorem packed_bnd (j : Fin 21) : packed m d (ix1 ⟨1 + j.val, by omega⟩) = bnd m d j :=
  concatenate_apply_piece (t := S48) 0 _ _ _ 1 (by show 1 < 4; decide) S21 _ rfl rfl 1 rfl (ix1 j)
    (fun b hb => absurd (Subsingleton.elim _ _) hb) rfl

/-- Words 22 to 42 are the adjustments. -/
theorem packed_adj (j : Fin 21) : packed m d (ix1 ⟨22 + j.val, by omega⟩) = adj m d j :=
  concatenate_apply_piece (t := S48) 0 _ _ _ 2 (by show 2 < 4; decide) S21 _ rfl rfl 22 rfl (ix1 j)
    (fun b hb => absurd (Subsingleton.elim _ _) hb) rfl

/-- What the kernel leaves: the boundary of the prediction's bin plus its adjustment. -/
theorem outV_eq (i : Fin 21) (hi : IsBin (below (pred m d) (bnd m d)) i) :
    (outV m d : FVec F S1 .f32) = fun _ => Scalar.addf (bnd m d i) (adj m d i) :=
  funext fun _ => chain_eq _ _ _ _ (packed_pred m d) (packed_bnd m d) (packed_adj m d) i hi

end Cert.Proof.Bucketize

end
-- ==== Proof.Take.lean ====
/-
  The two references' ways to the bin, as facts on host operations: the least number of a boundary that the prediction is
  at most, capped at the last place, is the bin of the mask; the number of boundaries below the prediction, capped, is the
  bin where the boundaries ascend; and the two takes at the bin, added, read the boundary and the adjustment there.
-/
module

public import proofs.«01_k».proof.Proof.Bucket
public import proofs.«01_k».proof.Proof.Gen.Pre_ascending
public import Idealize.ShloMosaic.Lib.Routing.OpsSet
public import Idealize.ShloMosaic.Lib.SortNet.Extract
public import Idealize.ShloMosaic.Lib.ReduceAll

@[expose] public section

noncomputable section

namespace Cert.Proof.Bucketize

open Idealize.ShloMosaic
open Idealize.ShloMosaic.ValueIdx (ix1 ix2)

abbrev W1 : Shape := ⟨1, ![1]⟩
abbrev W21 : Shape := ⟨1, ![21]⟩
abbrev W1x1 : Shape := ⟨2, ![1, 1]⟩
abbrev W1x21 : Shape := ⟨2, ![1, 21]⟩
abbrev W0 : Shape := ⟨0, ![]⟩

/-- A vector of one word has the one index. -/
theorem idx1_eq (j : W1.Idx) : j = ix1 0 :=
  funext fun a => match a with | ⟨0, _⟩ => Subsingleton.elim (α := Fin 1) _ _

/-! ## The least of a set of words -/

/-- The signed minimum folded over a set from `b`: it is `b` or one of the words, and at most `b` and each of them. -/
theorem fold_minsi {ι : Type} [DecidableEq ι] (s : Finset ι) (f : ι → BitVec 32) (b : BitVec 32) :
    (s.fold IntOp.minsi b f = b ∨ ∃ i ∈ s, s.fold IntOp.minsi b f = f i)
      ∧ (s.fold IntOp.minsi b f).toInt ≤ b.toInt ∧ ∀ i ∈ s, (s.fold IntOp.minsi b f).toInt ≤ (f i).toInt := by
  induction s using Finset.induction_on with
  | empty => simp
  | insert a s ha ih =>
    obtain ⟨h0, h1, h2⟩ := ih
    have hm := SortNet.toInt_minsi (f a) (s.fold IntOp.minsi b f)
    rw [Finset.fold_insert ha]
    refine ⟨?_, hm ▸ (min_le_right _ _).trans h1, fun i hi => ?_⟩
    · rcases le_total (f a).toInt (s.fold IntOp.minsi b f).toInt with hle | hle
      · exact Or.inr ⟨a, Finset.mem_insert_self a s, BitVec.eq_of_toInt_eq (hm.trans (min_eq_left hle))⟩
      · rw [BitVec.eq_of_toInt_eq (hm.trans (min_eq_right hle))]
        exact h0.imp id fun ⟨i, hi, e⟩ => ⟨i, Finset.mem_insert_of_mem hi, e⟩
    · rcases Finset.mem_insert.mp hi with rfl | hi
      · exact hm ▸ min_le_left _ _
      · exact hm ▸ (min_le_right _ _).trans (h2 i hi)

/-- The least number of a set bit of the mask (21 where a bit is not set), capped at 20, is the mask's bin. -/
theorem min_fold_isBin (s : Finset W1x21.Idx) (hs : ∀ q : Fin 21, ix2 0 q ∈ s) (f : W1x21.Idx → BitVec 32) (mask : Fin 21 → BitVec 1)
    (hf : ∀ q : Fin 21, f (ix2 0 q) = Scalar.select (mask q) (BitVec.ofNat 32 q.val) 21#32) (i : Fin 21) (hi : IsBin mask i) :
    IntOp.minsi (s.fold IntOp.minsi 2147483647#32 f) 20#32 = BitVec.ofNat 32 i.val := by
  have hsmall : ∀ q : Fin 21, (BitVec.ofNat 32 q.val).toInt = (q.val : Int) := fun q =>
    StableHlo.Predicate.toInt_ofNat_small q.val (by omega)
  obtain ⟨h0, -, h2⟩ := fold_minsi s f 2147483647#32
  apply BitVec.eq_of_toInt_eq
  rw [SortNet.toInt_minsi, hsmall, show (20#32).toInt = 20 from rfl]
  have hcap : (i.val : Int) ≤ 20 := by omega
  have hlow : (i.val : Int) ≤ (s.fold IntOp.minsi 2147483647#32 f).toInt := by
    rcases h0 with e | ⟨k, -, e⟩
    · rw [e, show (2147483647#32).toInt = 2147483647 from rfl]; omega
    · obtain ⟨q, rfl⟩ : ∃ q : Fin 21, k = ix2 0 q :=
        ⟨k 1, funext fun a => match a with | ⟨0, _⟩ => Subsingleton.elim (α := Fin 1) _ _ | ⟨1, _⟩ => rfl⟩
      rw [e, hf]
      by_cases hq : mask q = 1#1
      · rw [show Scalar.select (mask q) (BitVec.ofNat 32 q.val) 21#32 = BitVec.ofNat 32 q.val from if_pos hq, hsmall]
        have : i ≤ q := not_lt.mp fun hlt => hi.1 q hlt hq
        exact_mod_cast this
      · rw [show Scalar.select (mask q) (BitVec.ofNat 32 q.val) 21#32 = 21#32 from if_neg hq,
          show (21#32).toInt = 21 from rfl]
        omega
  rcases hi.2 with hm | rfl
  · have hle := h2 _ (hs i)
    rw [hf, show Scalar.select (mask i) (BitVec.ofNat 32 i.val) 21#32 = BitVec.ofNat 32 i.val from if_pos hm, hsmall] at hle
    omega
  · simp only [Fin.val_last] at hlow ⊢
    omega

/-! ## The number of boundaries below the prediction -/

/-- Where the boundaries ascend, the number of those below the prediction, capped at 20, is the bin. -/
theorem card_below_isBin (p : EReal) (b : Fin 21 → EReal) (hmono : Monotone b) (i : Fin 21)
    (hi : IsBin (fun j => Ideal.cmp .ole p (b j)) i) : min (Finset.univ.filter fun q => b q < p).card 20 = i.val := by
  have hbit : ∀ j, Ideal.cmp .ole p (b j) = 1#1 ↔ p ≤ b j := fun j => by
    simp only [Ideal.cmp]
    by_cases h : p ≤ b j <;> simp [h]
  have hlow : i.val ≤ (Finset.univ.filter fun q => b q < p).card := by
    have hsub : Finset.Iio i ⊆ Finset.univ.filter fun q => b q < p := fun q hq => by
      simp only [Finset.mem_filter, Finset.mem_univ, true_and]
      exact not_le.mp fun hle => hi.1 q (Finset.mem_Iio.mp hq) ((hbit q).mpr hle)
    simpa using Finset.card_le_card hsub
  rcases hi.2 with hm | rfl
  · have hsub : (Finset.univ.filter fun q => b q < p) ⊆ Finset.Iio i := fun q hq => by
      simp only [Finset.mem_filter, Finset.mem_univ, true_and] at hq
      exact Finset.mem_Iio.mpr (not_le.mp fun hle => absurd (((hbit i).mp hm).trans (hmono hle)) (not_le.mpr hq))
    have hup := Finset.card_le_card hsub
    simp only [Fin.card_Iio] at hup
    omega
  · simp only [Fin.val_last] at hlow ⊢
    omega

/-- A count at most 21, capped at 20 as signed words are, is the word of the capped count. -/
theorem minsi_count (R : BitVec 32) (c : Nat) (hR : R.toNat = c) (hc : c ≤ 21) :
    IntOp.minsi R 20#32 = BitVec.ofNat 32 (min c 20) := by
  obtain rfl : R = BitVec.ofNat 32 c := BitVec.eq_of_toNat_eq (by rw [hR, BitVec.toNat_ofNat, Nat.mod_eq_of_lt (by omega)])
  apply BitVec.eq_of_toInt_eq
  rw [SortNet.toInt_minsi, StableHlo.Predicate.toInt_ofNat_small c (by omega),
    StableHlo.Predicate.toInt_ofNat_small (min c 20) (by omega), show (20#32).toInt = 20 from rfl]
  omega

/-- The precondition, that no boundary is above its successor, says that the boundaries ascend. -/
theorem ascending_monotone (x0 : FVec Ideal W1 .f32) (x1 x2 : FVec Ideal W21 .f32)
    (h : Cert.Pre_ascending.fn (F := Ideal) x0 x1 x2 = fun _ => 1#1) : Monotone fun j : Fin 21 => (x1 (ix1 j) : EReal) := by
  have hj : ∀ k : Fin 20, Ideal.cmp .ole (x1 (ix1 k.castSucc)) (x1 (ix1 k.succ)) = 1#1 := fun k => by
    have e := congrFun h ValueIdx.ix0
    unfold Cert.Pre_ascending.fn at e
    have e' := Host.reduce_andi_all _ _ _ _ _ e (ix1 k)
    refine Eq.trans ?_ e'
    show Ideal.cmp .ole _ _ = Ideal.cmp .ole _ _
    congr 1
    · refine congrArg x1 (funext fun a => Fin.ext ?_)
      match a with | ⟨0, _⟩ => exact (Nat.zero_add _).symm
    · refine congrArg x1 (funext fun a => Fin.ext ?_)
      match a with | ⟨0, _⟩ => exact Nat.add_comm _ _
  refine Fin.monotone_iff_le_succ.mpr fun k => ?_
  have := hj k
  simp only [Ideal.cmp] at this
  by_contra hn
  simp [hn] at this

/-! ## The takes -/

variable {F : FTy → Type} [FloatOps F]

/-- The two takes at an index word that names place `i`, added: the boundary plus the adjustment at `i`. A word of a place
    is not negative, so the wrap that indexing from the end would need changes nothing. -/
theorem takes_eq (d : GatherDims W21 W1x1 W1) (hcoll : d.collapsedSliceDims = [0]) (hob : d.operandBatchingDims = [])
    (hsim : d.startIndexMap = [0]) (hivd : d.indexVectorDim = 1) (b t : FVec F W21 .f32) (W z n : IVec W1 32)
    (hbc : W1.BroadcastsInDim W1x1 (![0] : Fin 1 → Fin W1x1.rank)) (hz : z = fun _ => 0#32) (i : Fin 21)
    (hW : W (ix1 0) = BitVec.ofNat 32 i.val) :
    addf (Host.gather d b (broadcastInDim W1x1 ![0] hbc (select (cmpi .slt W z) (addi W n) W)))
      (Host.gather d t (broadcastInDim W1x1 ![0] hbc (select (cmpi .slt W z) (addi W n) W)))
      = fun _ => FloatOps.addf (b (ix1 i)) (t (ix1 i)) := by
  have hidx : (broadcastInDim W1x1 ![0] hbc (select (cmpi .slt W z) (addi W n) W)) (ix2 (0 : Fin 1) (0 : Fin 1))
      = BitVec.ofNat 32 i.val := by
    have hb1 : ∀ V : IVec W1 32, (broadcastInDim W1x1 ![0] hbc V) (ix2 (0 : Fin 1) (0 : Fin 1)) = V (ix1 0) := fun V =>
      congrArg V (idx1_eq _)
    rw [hb1]
    subst hz
    have hneg : IntOp.cmpi .slt (BitVec.ofNat 32 i.val) 0#32 ≠ 1#1 := by
      clear hW; revert i; decide
    show Scalar.select (IntOp.cmpi .slt (W (ix1 0)) 0#32) _ (W (ix1 0)) = _
    rw [hW]
    exact if_neg hneg
  funext j
  rw [idx1_eq j]
  exact congrArg₂ FloatOps.addf (Routing.gather_take1 d hcoll hob hsim hivd b _ 0 i hidx (by decide))
    (Routing.gather_take1 d hcoll hob hsim hivd t _ 0 i hidx (by decide))

end Cert.Proof.Bucketize

end
-- ==== Proof.Reference.lean ====
/-
  The two references run: each ends with the boundary of the prediction's bin plus its adjustment, its arguments as they
  were and every semaphore at zero. The reference that takes the first boundary not below the prediction does so over any
  float values whose scalar sum and comparison are the vector ones; the one that counts the boundaries below it, at the
  extended reals where the boundaries ascend.
-/
module

public import proofs.«01_k».proof.Proof.Take
public import proofs.«01_k».proof.Proof.Gen.ReferenceIdeal.Run
public import proofs.«01_k».proof.Proof.Gen.CountedIdeal.Run
public import Idealize.ShloMosaic.Lib.Quiescent

@[expose] public section

noncomputable section

namespace Cert.Proof.Bucketize

open Idealize.ShloMosaic Idealize.ShloMosaic.TcCoe Idealize.SL.Sem
open Idealize.ShloMosaic.ValueIdx (ix1 ix2)

/-! ## The scalar operations that the kernel uses -/

/-- The scalar unit's sum and comparison of f32 words, which the kernel uses, are the vector ones, which a reference uses. -/
structure ScalarAgrees (F : FTy → Type) [FloatOps F] : Prop where
  add : ∀ x y : F .f32, Scalar.addf x y = FloatOps.addf x y
  ole : ∀ x y : F .f32, Scalar.cmpf .ole x y = FloatOps.cmpf .ole x y

/-- At the extended reals. -/
theorem agrees_ideal : ScalarAgrees Ideal := ⟨fun _ _ => rfl, fun _ _ => rfl⟩
/-- At bit patterns. -/
theorem agrees_bits : ScalarAgrees Bits := ⟨fun _ _ => rfl, fun _ _ => rfl⟩

variable {F : FTy → Type} [FloatOps F]

/-! ## The first boundary not below the prediction -/

section First
open Cert.ReferenceIdeal Cert.ReferenceIdeal.Gen

/-- The bin's number as the reference computes it: the least number of a boundary that the prediction is at most (21 where
    there is none), capped at 20. -/
def firstNum (x0 : FVec F S1 .f32) (x1 : FVec F S21 .f32) : IVec S1 32 :=
  minsi (Host.reduce IntOp.minsi
      (select
        (cmpf .ole (broadcastInDim S1x21 ![0, 1] bcast_S1x1_S1x21_0_1 (broadcastInDim S1x1 ![0] bcast_S1_S1x1_0 x0))
          (broadcastInDim S1x21 ![1] bcast_S21_S1x21_1 x1))
        (broadcastInDim S1x21 ![1] bcast_S21_S1x21_1 (iotaInDim S21 32 0))
        (broadcastInDim S1x21 ![] bcast_S_S1x21 (id (constantI S_ 32 21#32))))
      (constantI S_ 32 2147483647#32) reducesTo_S1x21_S1_d1 h_S_)
    (broadcastInDim S1 ![] bcast_S_S1 (constantI S_ 32 20#32))

/-- It is the bin's. -/
theorem firstNum_eq (hF : ScalarAgrees F) (x0 : FVec F S1 .f32) (x1 : FVec F S21 .f32) (i : Fin 21)
    (hi : IsBin (below (x0 (ix1 0)) fun j => x1 (ix1 j)) i) : firstNum x0 x1 (ix1 0) = BitVec.ofNat 32 i.val := by
  show IntOp.minsi (Host.reduce IntOp.minsi _ _ _ _ (ix1 0)) 20#32 = _
  rw [Host.reduce_eq_fold]
  refine min_fold_isBin _ (fun q => ?_) _ _ (fun q => ?_) i hi
  · exact Finset.mem_filter.mpr ⟨Finset.mem_univ _, idx1_eq _⟩
  · have e0 : (broadcastInDim S1x21 ![0, 1] bcast_S1x1_S1x21_0_1 (broadcastInDim S1x1 ![0] bcast_S1_S1x1_0 x0)) (ix2 0 q)
        = x0 (ix1 0) := congrArg x0 (idx1_eq _)
    have e1 : ∀ {α : Type} (x : S21.Idx → α), (broadcastInDim S1x21 ![1] bcast_S21_S1x21_1 x) (ix2 0 q) = x (ix1 q) :=
      fun x => congrArg x (funext fun a => match a with | ⟨0, _⟩ => rfl)
    show Scalar.select (FloatOps.cmpf .ole _ _) _ 21#32 = Scalar.select (Scalar.cmpf .ole _ _) _ _
    rw [e0, e1, e1, hF.ole]
    rfl

/-- The reference's run, given each device's bin. -/
theorem first_run (hF : ScalarAgrees F) (m : (ℓ : Loc nD τ sig) → Buf (Elt F) ℓ) (ρ : Dev nD → PrngReg)
    (x0 : Dev nD → FVec F S1 .f32) (x1 x2 : Dev nD → FVec F S21 .f32)
    (h0 : ∀ c : Dev nD, m ((c.tc : Thread nD τ).loc main_arg0) = x0 c)
    (h1 : ∀ c : Dev nD, m ((c.tc : Thread nD τ).loc main_arg1) = x1 c)
    (h2 : ∀ c : Dev nD, m ((c.tc : Thread nD τ).loc main_arg2) = x2 c)
    (i : Dev nD → Fin 21) (hi : ∀ c, IsBin (below (x0 c (ix1 0)) fun j => x1 c (ix1 j)) (i c)) :
    θ_run defs (onTc (τ := τ) (main (F := F))) ⟨m, fun _ => 0, ρ⟩ fun r => ∀ c : Dev nD,
      r.2.mem ((c.tc : Thread nD τ).loc main_v24)
          = (fun _ => Scalar.addf (x1 c (ix1 (i c))) (x2 c (ix1 (i c))) : FVec F S1 .f32)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) := by
  refine (θ_run defs _ _).mono (fun r h c => ⟨(h c).1.trans ?_, (h c).2⟩) (Value.run m ρ)
  rw [h0, h1, h2]
  refine (takes_eq _ rfl rfl rfl rfl (x1 c) (x2 c) (firstNum (x0 c) (x1 c)) _ _ _ rfl (i c)
    (firstNum_eq hF (x0 c) (x1 c) (i c) (hi c))).trans ?_
  exact funext fun _ => (hF.add _ _).symm

/-- The reference leaves its arguments as they were and every semaphore at zero. -/
theorem first_frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0 :=
  (θ_run defs _ _).mono (fun r h => ⟨fun c => (h c).2, sem_eq_zero_of_no_sems (by decide) r.2⟩) (Value.run m ρ)

end First

/-! ## The number of boundaries below the prediction -/

section Count
open Cert.CountedIdeal Cert.CountedIdeal.Gen

/-- The bin's number by the count of the boundaries below the prediction, capped at 20. -/
def countNum (x0 : FVec Ideal S1 .f32) (x1 : FVec Ideal S21 .f32) : IVec S1 32 :=
  minsi (Host.reduce IntOp.addi
      (extui 32
        (cmpf .olt (broadcastInDim S1x21 ![1] bcast_S21_S1x21_1 x1)
          (broadcastInDim S1x21 ![0, 1] bcast_S1x1_S1x21_0_1 (broadcastInDim S1x1 ![0] bcast_S1_S1x1_0 x0))) natLt_1_32)
      (constantI S_ 32 0#32) reducesTo_S1x21_S1_d1 h_S_)
    (broadcastInDim S1 ![] bcast_S_S1 (constantI S_ 32 20#32))

/-- It is the bin's where the boundaries ascend. -/
theorem countNum_eq (x0 : FVec Ideal S1 .f32) (x1 : FVec Ideal S21 .f32) (hmono : Monotone fun j : Fin 21 => (x1 (ix1 j) : EReal))
    (i : Fin 21) (hi : IsBin (below (x0 (ix1 0)) fun j => x1 (ix1 j)) i) :
    countNum x0 x1 (ix1 0) = BitVec.ofNat 32 i.val := by
  have hcount := StableHlo.Predicate.toNat_reduce_count_cols (n := 1) (m := 21) (by decide)
    (cmpf .olt (broadcastInDim S1x21 ![1] bcast_S21_S1x21_1 x1)
      (broadcastInDim S1x21 ![0, 1] bcast_S1x1_S1x21_0_1 (broadcastInDim S1x1 ![0] bcast_S1_S1x1_0 x0)))
    natLt_1_32 reducesTo_S1x21_S1_d1 h_S_ (ix1 0)
  have hset : ∀ q : Fin 21, (cmpf (F := Ideal) (φ := .f32) .olt (broadcastInDim S1x21 ![1] bcast_S21_S1x21_1 x1)
      (broadcastInDim S1x21 ![0, 1] bcast_S1x1_S1x21_0_1 (broadcastInDim S1x1 ![0] bcast_S1_S1x1_0 x0)))
        (StableHlo.Predicate.ij ((ix1 0 : S1.Idx) 0) q) = 1#1 ↔ (x1 (ix1 q) : EReal) < x0 (ix1 0) := fun q => by
    have e0 : (broadcastInDim S1x21 ![0, 1] bcast_S1x1_S1x21_0_1 (broadcastInDim S1x1 ![0] bcast_S1_S1x1_0 x0))
        (StableHlo.Predicate.ij ((ix1 0 : S1.Idx) 0) q) = x0 (ix1 0) := congrArg x0 (idx1_eq _)
    have e1 : (broadcastInDim S1x21 ![1] bcast_S21_S1x21_1 x1) (StableHlo.Predicate.ij ((ix1 0 : S1.Idx) 0) q) = x1 (ix1 q) :=
      congrArg x1 (funext fun a => match a with | ⟨0, _⟩ => rfl)
    show Ideal.cmp .olt _ _ = 1#1 ↔ _
    rw [e0, e1]
    simp only [Ideal.cmp]
    by_cases h : (x1 (ix1 q) : EReal) < x0 (ix1 0) <;> simp [h]
  rw [Finset.filter_congr fun q _ => hset q] at hcount
  have hc := card_below_isBin (x0 (ix1 0)) (fun j => x1 (ix1 j)) hmono i hi
  refine (minsi_count _ _ hcount ((Finset.card_le_univ _).trans (by simp))).trans ?_
  rw [hc]

/-- The counting reference's run, given each device's bin, where the boundaries ascend. -/
theorem count_run (m : (ℓ : Loc nD τ sig) → Buf (Elt Ideal) ℓ) (ρ : Dev nD → PrngReg)
    (x0 : Dev nD → FVec Ideal S1 .f32) (x1 x2 : Dev nD → FVec Ideal S21 .f32)
    (h0 : ∀ c : Dev nD, m ((c.tc : Thread nD τ).loc main_arg0) = x0 c)
    (h1 : ∀ c : Dev nD, m ((c.tc : Thread nD τ).loc main_arg1) = x1 c)
    (h2 : ∀ c : Dev nD, m ((c.tc : Thread nD τ).loc main_arg2) = x2 c)
    (hmono : ∀ c, Monotone fun j : Fin 21 => (x1 c (ix1 j) : EReal))
    (i : Dev nD → Fin 21) (hi : ∀ c, IsBin (below (x0 c (ix1 0)) fun j => x1 c (ix1 j)) (i c)) :
    θ_run defs (onTc (τ := τ) (main (F := Ideal))) ⟨m, fun _ => 0, ρ⟩ fun r => ∀ c : Dev nD,
      r.2.mem ((c.tc : Thread nD τ).loc main_v22)
          = (fun _ => Scalar.addf (x1 c (ix1 (i c))) (x2 c (ix1 (i c))) : FVec Ideal S1 .f32)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) := by
  refine (θ_run defs _ _).mono (fun r h c => ⟨(h c).1.trans ?_, (h c).2⟩) (Value.run m ρ)
  rw [h0, h1, h2]
  exact takes_eq _ rfl rfl rfl rfl (x1 c) (x2 c) (countNum (x0 c) (x1 c)) _ _ _ rfl (i c)
    (countNum_eq (x0 c) (x1 c) (hmono c) (i c) (hi c))

/-- The counting reference leaves its arguments as they were and every semaphore at zero. -/
theorem count_frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0 :=
  (θ_run defs _ _).mono (fun r h => ⟨fun c => (h c).2, sem_eq_zero_of_no_sems (by decide) r.2⟩) (Value.run m ρ)

end Count

end Cert.Proof.Bucketize

end
-- ==== Proof.lean ====
/-
  The proof of `Cert.Claim` (proofs.«01_k».proof.Defs). Every program leaves its arguments as they were and every semaphore
  at zero; the kernel's one result is the reference's at the extended reals and bit for bit, on every input; and it is the
  counting reference's at the extended reals where the boundaries ascend.

  The program as printed and the reference as printed are the same texts as `KernelIdeal` and `ReferenceIdeal`, whose runs
  are proved over any float values: theirs are the instances at bit patterns.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.CountedIdeal
public import proofs.«01_k».proof.Proof.Gen.Pre_ascending
public import proofs.«01_k».proof.Proof.Gen.ReferenceIdeal.Run
public import proofs.«01_k».proof.Proof.Gen.CountedIdeal.Run
public import proofs.«01_k».proof.Proof.Run
public import proofs.«01_k».proof.Proof.Reference
public import Idealize.ShloMosaic.Adequacy
public import Idealize.ShloMosaic.Init

@[expose] public section

noncomputable section

namespace Cert.Proof

open Idealize.ShloMosaic Idealize.SL.Sem Cert.Proof.Bucketize
open Idealize.ShloMosaic.ValueIdx (ix1)

variable {F : FTy → Type} [FloatOps F]

/-- Each device's bin, from what the kernel's arguments hold. -/
theorem exists_bins (m : (ℓ : Loc Cert.KernelIdeal.nD Cert.KernelIdeal.τ Cert.KernelIdeal.sig) → Buf (Elt F) ℓ) :
    ∃ i : Dev Cert.KernelIdeal.nD → Fin 21, ∀ c, IsBin (below (pred m c) (bnd m c)) (i c) :=
  ⟨fun c => (exists_isBin (below (pred m c) (bnd m c))).choose, fun c => (exists_isBin (below (pred m c) (bnd m c))).choose_spec⟩

/-- The reference, run from the kernel's arguments, ends with what the kernel leaves. -/
theorem first_run_outV (hF : ScalarAgrees F) (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ)
    (ρ : Dev Cert.ReferenceIdeal.nD → PrngReg)
    (h : ∀ c : Dev Cert.KernelIdeal.nD,
      m' ((c.tc : Thread Cert.ReferenceIdeal.nD Cert.ReferenceIdeal.τ).loc Cert.ReferenceIdeal.main_arg0) = m (pLoc c)
      ∧ m' ((c.tc : Thread Cert.ReferenceIdeal.nD Cert.ReferenceIdeal.τ).loc Cert.ReferenceIdeal.main_arg1) = m (bLoc c)
      ∧ m' ((c.tc : Thread Cert.ReferenceIdeal.nD Cert.ReferenceIdeal.τ).loc Cert.ReferenceIdeal.main_arg2) = m (tLoc c)) :
    θ_run Cert.ReferenceIdeal.defs (onTc (τ := Cert.ReferenceIdeal.τ) (Cert.ReferenceIdeal.main (F := F))) ⟨m', fun _ => 0, ρ⟩ fun r =>
      ∀ c : Dev Cert.ReferenceIdeal.nD,
        r.2.mem ((c.tc : Thread Cert.ReferenceIdeal.nD Cert.ReferenceIdeal.τ).loc Cert.ReferenceIdeal.main_v24) = outV m c
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2) := by
  obtain ⟨i, hi⟩ := exists_bins m
  refine (θ_run _ _ _).mono (fun r hr c => ⟨(hr c).1.trans (outV_eq m c (i c) (hi c)).symm, (hr c).2⟩)
    (first_run hF m' ρ (fun c => m (pLoc c)) (fun c => m (bLoc c)) (fun c => m (tLoc c)) (fun c => (h c).1) (fun c => (h c).2.1)
      (fun c => (h c).2.2) i hi)

/-- The counting reference, run from the kernel's arguments with ascending boundaries, ends with what the kernel leaves. -/
theorem count_run_outV (m : (ℓ : Loc Cert.KernelIdeal.nD Cert.KernelIdeal.τ Cert.KernelIdeal.sig) → Buf (Elt Ideal) ℓ)
    (m' : (ℓ : Loc Cert.CountedIdeal.nD Cert.CountedIdeal.τ Cert.CountedIdeal.sig) → Buf (Elt Ideal) ℓ)
    (ρ : Dev Cert.CountedIdeal.nD → PrngReg) (hpre : Cert.Pre_KernelIdeal_ascending m)
    (h : ∀ c : Dev Cert.KernelIdeal.nD,
      m' ((c.tc : Thread Cert.CountedIdeal.nD Cert.CountedIdeal.τ).loc Cert.CountedIdeal.main_arg0) = m (pLoc c)
      ∧ m' ((c.tc : Thread Cert.CountedIdeal.nD Cert.CountedIdeal.τ).loc Cert.CountedIdeal.main_arg1) = m (bLoc c)
      ∧ m' ((c.tc : Thread Cert.CountedIdeal.nD Cert.CountedIdeal.τ).loc Cert.CountedIdeal.main_arg2) = m (tLoc c)) :
    θ_run Cert.CountedIdeal.defs (onTc (τ := Cert.CountedIdeal.τ) (Cert.CountedIdeal.main (F := Ideal))) ⟨m', fun _ => 0, ρ⟩ fun r =>
      ∀ c : Dev Cert.CountedIdeal.nD,
        r.2.mem ((c.tc : Thread Cert.CountedIdeal.nD Cert.CountedIdeal.τ).loc Cert.CountedIdeal.main_v22) = outV m c
        ∧ r.2.mem ((c.tc : Thread Cert.CountedIdeal.nD Cert.CountedIdeal.τ).loc Cert.CountedIdeal.main_arg0) = m' ((c.tc : Thread Cert.CountedIdeal.nD Cert.CountedIdeal.τ).loc Cert.CountedIdeal.main_arg0)
        ∧ r.2.mem ((c.tc : Thread Cert.CountedIdeal.nD Cert.CountedIdeal.τ).loc Cert.CountedIdeal.main_arg1) = m' ((c.tc : Thread Cert.CountedIdeal.nD Cert.CountedIdeal.τ).loc Cert.CountedIdeal.main_arg1)
        ∧ r.2.mem ((c.tc : Thread Cert.CountedIdeal.nD Cert.CountedIdeal.τ).loc Cert.CountedIdeal.main_arg2) = m' ((c.tc : Thread Cert.CountedIdeal.nD Cert.CountedIdeal.τ).loc Cert.CountedIdeal.main_arg2) := by
  obtain ⟨i, hi⟩ := exists_bins m
  refine (θ_run _ _ _).mono (fun r hr c => ⟨(hr c).1.trans (outV_eq m c (i c) (hi c)).symm, (hr c).2⟩)
    (count_run m' ρ (fun c => m (pLoc c)) (fun c => m (bLoc c)) (fun c => m (tLoc c)) (fun c => (h c).1) (fun c => (h c).2.1)
      (fun c => (h c).2.2) (fun c => ascending_monotone _ _ _ (hpre c)) i hi)

/-- The certificate's claims, in the order stated. -/
theorem claim : Cert.Claim := ⟨Cert.Kernel.Gen.facts, Cert.KernelIdeal.Gen.facts, Cert.ReferenceIdeal.Gen.facts,
  Cert.Reference.Gen.facts, Cert.CountedIdeal.Gen.facts, Cert.Pre_ascending.Gen.facts,
  fun m g _ => (θ_run Cert.KernelIdeal.defs _ _).mono (fun _ h => ⟨fun c => (h.1 c).2, h.2⟩) (run_main (F := Bits) m g),
  fun m g _ => (θ_run Cert.KernelIdeal.defs _ _).mono (fun _ h => ⟨fun c => (h.1 c).2, h.2⟩) (run_main (F := Ideal) m g),
  fun m g _ => (θ_run Cert.KernelIdeal.defs _ _).mono (fun _ h => ⟨fun c => (h.1 c).2, h.2⟩) (run_main (F := Ideal) m g),
  fun m g _ => first_frame (F := Ideal) m g,
  fun m g _ => first_frame (F := Bits) m g,
  fun m g _ => count_frame m g,
  fun m g _ => count_frame m g,
  trivial,
  fun m g m' g' _ h => ⟨fun c => outV m c,
    (θ_run Cert.KernelIdeal.defs _ _).mono (fun _ hr => hr.1) (run_main (F := Ideal) m g), first_run_outV agrees_ideal m m' g' h⟩,
  fun m g m' g' _ h => ⟨fun c => outV (F := Bits) m c,
    (θ_run Cert.KernelIdeal.defs _ _).mono (fun _ hr => hr.1) (run_main (F := Bits) m g), first_run_outV agrees_bits m m' g' h⟩,
  fun m g m' g' hpre h => ⟨fun c => outV m c,
    (θ_run Cert.KernelIdeal.defs _ _).mono (fun _ hr => hr.1) (run_main (F := Ideal) m g), count_run_outV m m' g' hpre h⟩⟩

end Cert.Proof

end
